-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024 : Shape := ⟨1, ![1024]⟩
abbrev S16384x1024 : Shape := ⟨2, ![16384, 1024]⟩
abbrev S_ : Shape := ⟨0, ![]⟩
abbrev S1x1024 : Shape := ⟨2, ![1, 1024]⟩

abbrev nBuf : Table → Nat
  | .hbm => 3
  | _ => 0

abbrev bufTy : (tb : Table) → Fin (nBuf tb) → BufTy
  | .hbm, ⟨0, _⟩ => ⟨S1024, .f32⟩
  | .hbm, ⟨1, _⟩ => ⟨S16384x1024, .f32⟩
  | .hbm, ⟨2, _⟩ => ⟨S1024, .f32⟩
  | _, _ => ⟨S1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1024 : Shape := ⟨1, ![1024]⟩
abbrev S16384x1024 : Shape := ⟨2, ![16384, 1024]⟩
abbrev S_ : Shape := ⟨0, ![]⟩
abbrev S1 : Shape := ⟨1, ![1]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024, .f32⟩
  | .hbm, ⟨1, _⟩ => ⟨S16384x1024, .f32⟩
  | .hbm, ⟨2, _⟩ => ⟨S_, .i32⟩
  | .hbm, ⟨3, _⟩ => ⟨S1, .i32⟩
  | .hbm, ⟨4, _⟩ => ⟨S16384x1024, .f32⟩
  | .hbm, ⟨5, _⟩ => ⟨S1x1024, .f32⟩
  | .hbm, ⟨6, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Row.lean ====
/-
  What the popped row is, as a function of the stack alone, and why both programs produce it.

  The reference writes its vector into row 0 of the stack and then reads row 1. The write never reaches row 1, so what
  it reads is row 1 of the stack as it was given. The kernel reads row 1 of the given stack directly. Everything here is
  about positions of elements, so it is stated for elements of any type.
-/
module

public import proofs.«01_k».proof.Proof.Gen.KernelIdeal
public import proofs.«01_k».proof.Proof.Gen.ReferenceIdeal
public import Idealize.ShloMosaic.Lib.Routing.OpsSet
public import Idealize.ShloMosaic.Lib.Routing.OpsPair
public import Idealize.ShloMosaic.Lib.Pipeline.Value
public import Idealize.ShloMosaic.Lib.ValueIdx

@[expose] public section

noncomputable section

namespace Cert.Proof.Row

open Idealize.ShloMosaic Idealize.ShloMosaic.ValueIdx
open Cert.ReferenceIdeal Cert.ReferenceIdeal.Gen

/-- Row 1 of the stack, as a vector: its entry `j` is the stack's entry at row 1, column `j`. -/
def popped {α : Type} (stack : S16384x1024.Idx → α) : S1024.Idx → α := fun j => stack (ix2 (1 : Fin 16384) (j 0 : Fin 1024))

/-- A vector's entry `j` and a one-row block's entry at row 0, column `j`, stand at the same place when the elements are
    counted in order. -/
theorem same_place (j : S1024.Idx) : (S1x1024.rowMajor (ix2 (0 : Fin 1) (j 0 : Fin 1024))).val = (S1024.rowMajor j).val := by
  rw [Shape.rowMajor_val_two, Shape.rowMajor_val_one]
  show 0 * 1024 + (j 0).val = (j 0).val
  omega

/-- Cutting the one-row block that starts at row 1 out of the stack, and then dropping its unit axis, leaves row 1. -/
theorem cut_row {α : Type} (stack : S16384x1024.Idx → α) (hs : S16384x1024.Slices ![1, 0] S1x1024) (hc : S1x1024.ShapeCasts S1024) :
    shapeCast S1024 (extractStridedSlice S1x1024 ![1, 0] stack hs) hc = popped stack := by
  funext j
  rw [shapeCast_apply _ hc j _ (same_place j)]
  refine extractStridedSlice_apply _ stack hs _ _ fun a => ?_
  match a with
  | ⟨0, _⟩ => rfl
  | ⟨1, _⟩ => exact (Nat.zero_add _).symm

/-- The row the reference's write starts at: row 0, for every position of the update. -/
theorem write_row (k : S1024.Idx) :
    scatter_S16384x1024_S1_S1024_0_0_0_0.start k (broadcastInDim S1 ![] bcast_S_S1 (constantI S_ 32 0#32)) 0 = 0 := by
  unfold ScatterDims.start
  split <;> rfl

/-- The write stays in the row it starts at: the update has no extent along the rows. -/
theorem write_height (k : S1024.Idx) : scatter_S16384x1024_S1_S1024_0_0_0_0.window k 0 = 0 := by
  unfold ScatterDims.window
  exact dif_neg (by decide)

/-- Writing a vector over row 0 leaves row 1 as it was. -/
theorem write_misses {α : Type} (stack : S16384x1024.Idx → α) (x : S1024.Idx → α) :
    popped (Host.scatter scatter_S16384x1024_S1_S1024_0_0_0_0 (fun _ b => b) stack (broadcastInDim S1 ![] bcast_S_S1 (constantI S_ 32 0#32)) x)
      = popped stack := by
  funext j
  refine Routing.scatter_set_miss _ _ _ _ _ fun k hk => ?_
  have h0 := (Routing.resultIdx?_eq_some _ _ _ _).mp hk 0
  rw [write_row, write_height] at h0
  exact absurd h0 (show ¬ (0 + ((0 : ℕ) : ℤ) = ((1 : ℕ) : ℤ)) by decide)

/-- What the reference returns is row 1 of the stack it was given, whatever vector it wrote. -/
theorem reference_row {α : Type} (stack : S16384x1024.Idx → α) (x : S1024.Idx → α) :
    shapeCast S1024 (extractStridedSlice S1x1024 ![1, 0]
        (Host.scatter scatter_S16384x1024_S1_S1024_0_0_0_0 (fun _ b => b) stack (broadcastInDim S1 ![] bcast_S_S1 (constantI S_ 32 0#32)) x)
        slices_S16384x1024_S1x1024_1_0) shapeCasts_S1x1024_S1024 = popped stack :=
  (cut_row _ _ _).trans (write_misses stack x)

/-- What the kernel's copy reads: through its view of row 1 with the unit axis dropped, the stack's array reads as row 1. -/
theorem copied_row {Val : EltTy → Type} (stack : (Memref.whole Cert.KernelIdeal.main_arg1_scs : Memref Cert.KernelIdeal.sig .scScalar .hbm S16384x1024 .f32).view.ty.Contents Val) :
    (((Memref.whole Cert.KernelIdeal.main_arg1_scs : Memref Cert.KernelIdeal.sig .scScalar .hbm S16384x1024 .f32).slice
        (Rect.unit (s := S16384x1024) ![1, 0] S1x1024.size Cert.KernelIdeal.Gen.inb_S16384x1024_S1x1024_1_0) (fun _ => rfl)).squeeze S1024
        Cert.KernelIdeal.Gen.squeezes_S1x1024_S1024).view.read Val stack = popped stack := by
  rw [Memref.read_squeeze_slice _ _ _ _ shapeCasts_S1x1024_S1024]
  funext j
  rw [shapeCast_apply _ shapeCasts_S1x1024_S1024 j _ (same_place j)]
  refine congrArg stack (funext fun a => Fin.ext ?_)
  match a with
  | ⟨0, _⟩ => rfl
  | ⟨1, _⟩ => simp

end Cert.Proof.Row

end
-- ==== Proof.Pop.lean ====
/-
  The kernel's run, for any float values.

  The TensorCore makes one call to one SparseCore, whose sequencer copies row 1 of the stack to the result's array and
  waits for the copy. The call lends the sequencer the stack and the result's array whole; the sequencer gives the stack
  back as it was and the result's array holding the popped row. The vector `x` stays with the TensorCore throughout.
-/
module

public import proofs.«01_k».proof.Proof.Row
public import proofs.«01_k».proof.Proof.Gen.KernelIdeal.Skeleton
public import Idealize.ShloMosaic.Lib.SparseCore.Quiescent
public import Idealize.ShloMosaic.Lib.Pipeline.Kit
public import Idealize.ShloMosaic.Lib.Tactic

@[expose] public section

noncomputable section

namespace Cert.Proof.Pop

open Cert.KernelIdeal Cert.KernelIdeal.Gen
open Idealize.ShloMosaic
open Idealize.ShloMosaic.SparseCore (S)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program in the launch theorem's terms -/

abbrev Lab : Labels := Pipeline.Sig Λ₀ (Fin 0) fun p => (pcfgs (F := F) p).Adm
abbrev K : SparseCore.Cfg τ sig (Lab (F := F)) 1 := sc (F := F)
abbrev D [FloatOps F] : Defs nD τ sig (Elt F) (Lab (F := F)) := Pipeline.defs pcfgs defs₀
abbrev var₀ : Variants := Variants.none
abbrev var : Variants := var₀.lift
abbrev start : var.V := Sum.inl none

/-- The semaphores of the launch are distinct from one another where they must be, and none of them is a kernel's. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- What a proof about this program may hold besides memory: the launch's rounds, and the counts of copies in flight. -/
abbrev Extra : Type := URounds (GSem nD τ sig) ℕ × Counters

local notation "𝕄" => MT nD τ sig (HIx 1) (Elt F) ℕ Extra ℕ

abbrev rounds : Emb (URounds (GSem nD τ sig) ℕ) (MT nD τ sig (HIx 1) (Elt F) ℕ Extra ℕ) := embL

/-! ## The three arrays -/

variable (m : (ℓ : Loc nD τ sig) → Buf (Elt F) ℓ) (ρ : Dev nD → PrngReg)

abbrev xAt (d : Dev nD) : Loc nD τ sig := (SparseCore.T d).loc main_arg0
abbrev stackAt (d : Dev nD) : Loc nD τ sig := (SparseCore.T d).loc main_arg1
abbrev outAt (d : Dev nD) : Loc nD τ sig := (SparseCore.T d).loc main_v0

/-- The row that device `d` is to return: row 1 of its stack as it stood at the start. -/
def row (d : Dev nD) : Buf (Elt F) (outAt d) := Row.popped (m (stackAt d))

/-- The stack's array, whole, as the sequencer's own text names it. -/
abbrev stackRef : Memref sig .scScalar .hbm S16384x1024 .f32 := Memref.whole main_arg1_scs
/-- The result's array, whole, as the sequencer's own text names it. -/
abbrev outRef : Memref sig .scScalar .hbm S1024 .f32 := Memref.whole main_v0_scs

/-- The stack, whole, as it stood at the start. -/
abbrev hasStack (d : Dev nD) : sProp 𝕄 := stackAt d ↦{fullShare} m (stackAt d)
/-- The result's array, whole, holding `f`. -/
abbrev hasOut (d : Dev nD) (f : Buf (Elt F) (outAt d)) : sProp 𝕄 := outAt d ↦{fullShare} f

variable [FloatOps F]

/-- What passes between the TensorCore and the sequencer. Out: the stack, and the result's array holding anything. Back:
    the stack as it was, and the result's array holding the popped row. The vector subcores take no part. -/
def P : (K (F := F)).Pay (nD := nD) (Val := Elt F) (Name := ℕ) (U := Extra) where
  st := fun _ d _ => iprop(hasStack m d ∗ ∃ f, hasOut d f)
  dn := fun _ d _ => iprop(hasStack m d ∗ hasOut d (row m d))
  go := fun _ _ _ _ => iprop(emp)
  td := fun _ _ _ _ => iprop(emp)
  x := fun _ _ => iprop(emp)

instance P_storable : (P (F := F) m).IsStorable where
  st _ d _ := by unfold P; infer_instance
  dn _ d _ := by unfold P; infer_instance
  go _ _ _ _ := by unfold P; infer_instance
  td _ _ _ _ := by unfold P; infer_instance

/-! ## The sequencer -/

section Sequencer

variable (d : Dev nD)

/-- The grid's one coordinate, at core `c`. -/
def gridAt (c : Fin (grid0.bound 0)) : grid0.Coords := fun
  | 0 => c
  | ⟨_ + 1, h⟩ => absurd h (Nat.not_lt.2 (Nat.le_add_left _ _))

/-- The semaphore the copy signals, on the sequencer of SparseCore `c`. -/
abbrev copyCell (c : Fin τ.nSC) : GSem nD τ sig := (S d c, .dma cc0_scoped0.sem)

omit [FloatOps F] in
/-- A sequencer's own semaphores at zero are the copy's semaphore at zero and the others at zero. -/
theorem cells_split (c : Fin τ.nSC) :
    (ownSems0 (S d c) : sProp 𝕄) = iprop(semVal (copyCell d c) 0 ∗ bigSep ((ownCells (S d c)).erase (copyCell d c)) fun g => semVal g 0) := by
  unfold SparseCore.Cfg.ownSems0
  exact SparseCore.bigSep_erase' ((mem_ownCells (g := copyCell d c)).mpr
    ⟨rfl, by show (SemLoc.dma cc0_scoped0.sem : SemLoc sig).isScoped .scScalar = true; decide⟩)

omit [FloatOps F] in
/-- The sequencer's name for the stack's array and the TensorCore's name for it are names of one array. -/
theorem stack_named (c : Fin τ.nSC) (f : Buf (Elt F) (stackAt d)) :
    (stackRef.view.loc (S d c) ↦{fullShare} f : sProp 𝕄) = stackAt d ↦{fullShare} f := by
  simp only [Memref.view_whole, View.set_whole]

omit [FloatOps F] in
/-- The same for the result's array. -/
theorem out_named (c : Fin τ.nSC) (f : Buf (Elt F) (outAt d)) :
    (outRef.view.loc (S d c) ↦{fullShare} f : sProp 𝕄) = outAt d ↦{fullShare} f := by
  simp only [Memref.view_whole, View.set_whole]

/-- The thread of the sequencer that the call reaches through core `c` of the grid. -/
abbrev seqr (c : Fin (grid0.bound 0)) : Thread nD τ := S d (c.castLE hcore0)

/-- The sequencer's program: from the stack and the result's array it copies row 1 across, waits for the copy, and ends
    with the stack unchanged, the popped row in the result's array, and its semaphores at zero. -/
theorem sequencer (c : Fin (grid0.bound 0)) (O : CellTallies nD τ sig (HIx 1)) (W : Waits sig (HIx 1)) (hO : ∀ g, O g none = 0) :
    iprop(levAts (K (F := F)).L (K (F := F)).lev ∗ emp ∗ (hasStack m d ∗ ∃ f, hasOut d f)
        ∗ scopedBufs (seqr d c) ∗ scopedSems0 (seqr d c) ∗ owes (seqr d c) O W)
      ⊢ wp frame (wpE (defs₀ (F := F)) var₀ (seqr d c) none) Set.univ
          (cc0__pop_row (gridAt c) stackRef (Memref.isWhole_whole _) outRef (Memref.isWhole_whole _) cc0_scoped0)
          fun _ => iprop((hasStack m d ∗ hasOut d (row m d)) ∗ scopedBufs (seqr d c) ∗ scopedSems0 (seqr d c)
            ∗ ∃ W', ⌜∀ p ∈ W', p ∈ W ∨ p.2 = none ∨ p.2 = some (0 : Fin 1)⌝ ∗ owes (seqr d c) O W') := by
  simp only [cc0__pop_row_eq_skeleton]; unfold cc0__pop_row_skel
  iintro ⟨#Hlv, -, ⟨Hstack, %f, Hout⟩, Hbufs, Hsems, Howes⟩
  ihave Hsems' := (SparseCore.Cfg.scopedSems0_S_elim (Val := Elt F) d (c.castLE hcore0)) $$ Hsems
  icases Hsems' with ⟨Hown, Hsubs⟩
  ihave Hown' := (Entails.of_eq (cells_split (F := F) d (c.castLE hcore0))) $$ Hown
  icases Hown' with ⟨Hcell, Hothers⟩
  ihave Hmay := ((K (F := F)).mayWaits_none (thr := seqr d c) hO) $$ Hlv
  ihave Hstack' := (Entails.of_eq (stack_named (F := F) d (c.castLE hcore0) _).symm) $$ Hstack
  ihave Hout' := (Entails.of_eq (out_named (F := F) d (c.castLE hcore0) _).symm) $$ Hout
  sl_exec
  sl_step
  have hrow : outRef.view.write (Elt F) f (sequencer.sl.dma0 m d) Finset.univ = row m d := by
    unfold sequencer.sl.dma0
    exact (View.write_whole_univ _ _ _).trans (Row.copied_row (m (stackAt d)))
  isplitl [Hstack' Hout']
  · isplitl [Hstack']
    · iapply (Entails.of_eq (stack_named (F := F) d (c.castLE hcore0) _)); iexact Hstack'
    · iapply (Entails.of_eq (out_named (F := F) d (c.castLE hcore0) _))
      rw [← hrow]; iexact Hout'
  isplitl [Hbufs]; · iexact Hbufs
  isplitl [Hcell Hothers Hsubs]
  · iapply (SparseCore.Cfg.scopedSems0_S_intro (Val := Elt F) d (c.castLE hcore0))
    isplitl [Hcell Hothers]
    · iapply (Entails.of_eq (cells_split (F := F) d (c.castLE hcore0)).symm)
      isplitl [Hcell]; · iexact Hcell
      iexact Hothers
    · iexact Hsubs
  iexists (insert (SemLoc.dma cc0_scoped0.sem, (default : HIx 1)) W); isplitr
  · ipureintro; intro p hp
    rcases Finset.mem_insert.mp hp with hp | hp
    · exact .inr (.inl (hp ▸ rfl))
    · exact .inl hp
  · iexact Howes

end Sequencer

/-! ## The launch -/

/-- What the body table runs on the sequencer of core `c`: the kernel's function at that core, on the two arrays. -/
theorem table_entry (c : Fin τ.nSC) :
    defs₀ (F := F) (.scScalar c) 0 ()
      = SparseCore.onCore hcore0 (fun c => cc0__pop_row (gridAt c) stackRef (Memref.isWhole_whole _) outRef (Memref.isWhole_whole _) cc0_scoped0) ⟨⟩ c := rfl

/-- The call's part for the sequencer, as the launch theorem asks for it. -/
theorem callRuns : (K (F := F)).ScalarObl (D (F := F)) var (P m) start 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) var₀ _ Set.univ none _ _)
  have hc : ((K (F := F)).core 0 c).val < grid0.bound 0 := c.isLt
  rw [table_entry]; simp only [SparseCore.onCore, hc, ↓reduceDIte]
  exact sequencer m d c O W hO

/-- The launch starts from the handshakes' rounds and no copy in flight. -/
def extra₀ : Extra := (initOf (K (F := F)).hsCells (K (F := F)).hsToks, 1)

omit [FloatOps F] in
/-- Nothing, held once for each member of a set, is nothing. -/
theorem nothing_each {I : Type} (s : Finset I) : (bigSep s fun _ => iprop(emp)) = (iprop(emp) : sProp 𝕄) := bigSep_emp_const s

/-- Those are the rounds the launch theorem asks for; the kernel and @main ask for nothing more. -/
theorem extra₀_gives : (ownU (extra₀ (F := F)) : sProp 𝕄)
    ⊢ |={Set.univ}=> iprop(BI.own (rounds (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold extra₀
  iintro Hu
  ihave H := (ownU_pair _ _) $$ Hu
  icases H with ⟨Hr, -⟩
  imodintro
  isplitl [Hr]; · iexact Hr
  unfold P; dsimp only
  simp only [nothing_each]
  isplitr <;> iempintro

/-- What the call takes: one SparseCore's share. -/
theorem call_takes (d : Dev nD) : (bigSep Finset.univ fun c : Fin ((K (F := F)).nCore 0) => (P m).st 0 d c) = iprop(hasStack m d ∗ ∃ f, hasOut d f) :=
  bigSep_univ_of_subsingleton (0 : Fin 1)

/-- What the call gives back: one SparseCore's share. -/
theorem call_gives (d : Dev nD) : (bigSep Finset.univ fun c : Fin ((K (F := F)).nCore 0) => (P m).dn 0 d c) = iprop(hasStack m d ∗ hasOut d (row m d)) :=
  bigSep_univ_of_subsingleton (0 : Fin 1)

omit [FloatOps F] in
/-- The TensorCore's arrays are `x`, the stack and the result. -/
theorem arrays (d : Dev nD) (C : (b : Ref sig .tc) → Buf (Elt F) ((d.tc : Thread nD τ).loc b)) :
    (unscopedBufs d C : sProp 𝕄) = iprop((xAt d ↦{fullShare} C main_arg0) ∗ (stackAt d ↦{fullShare} C main_arg1) ∗ outAt d ↦{fullShare} C main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What device `d` holds when @main is over: `x` and the stack as they were, the popped row in the result's array. -/
abbrev final (d : Dev nD) : sProp 𝕄 := iprop((xAt d ↦{fullShare} m (xAt d)) ∗ hasStack m d ∗ hasOut d (row m d))

/-- @main on one device: the call, and nothing else. -/
theorem main_runs (κ : GSem nD τ sig → ℕ) (d : Dev nD) :
    iprop((K (F := F)).ctx rounds (P m) κ ∗ (K (F := F)).tcSt rounds d 0 ∗ (K (F := F)).tcRes m ρ d ∗ emp)
      ⊢ wp frame (wpE ((K (F := F)).defs (D (F := F))) var (SparseCore.T d) none) Set.univ (main d)
          fun _ => iprop((K (F := F)).tcSt rounds d 1 ∗ final m d ∗ (K (F := F)).tcEnd d) := by
  unfold SparseCore.Cfg.tcRes SparseCore.Cfg.tcEnd
  rw [arrays]
  simp only [main, wp_bind, wp_pure]
  iintro ⟨#Hctx, Hst, ⟨Hb, ⟨Hx, Hstack, Hout⟩, Hts, -⟩, -⟩
  iapply ((K (F := F)).wp_run (D (F := F)) var (EH := rounds) (P := P m) κ d 0) $$ [Hst Hx Hstack Hout Hb Hts]
  isplitr; · iexact Hctx
  isplitl [Hst]; · iexact Hst
  isplitl [Hstack Hout]
  · rw [call_takes]
    isplitl [Hstack]; · iexact Hstack
    iexists _; iexact Hout
  iintro ⟨Hst, Hback⟩
  ihave Hback' := (Entails.of_eq (call_gives m d)) $$ Hback
  icases Hback' with ⟨Hstack, Hout⟩
  imodintro
  isplitl [Hst]; · iexact Hst
  isplitr [Hb Hts]
  · isplitl [Hx]; · iexact Hx
    isplitl [Hstack] <;> iassumption
  isplitl [Hb] <;> iassumption

/-- What a final state says of device `d`: `x` and the stack are as they were, the result is the popped row. -/
def Popped (d : Dev nD) (mem : (ℓ : Loc nD τ sig) → Buf (Elt F) ℓ) : Prop :=
  mem (outAt d) = row m d ∧ mem (xAt d) = m (xAt d) ∧ mem (stackAt d) = m (stackAt d)

omit [FloatOps F] in
/-- An array held whole at given contents is an array that the state has at those contents. -/
theorem reads (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

/-- What @main leaves on device `d` tells of any state it is held beside. -/
theorem final_tells (d : Dev nD) (s' : Phys nD τ sig (Elt F)) : iprop(final m d ∗ SI s') ⊢ (⌜Popped m d s'.mem.mem⌝ : sProp 𝕄) := by
  iintro ⟨⟨Hx, Hstack, Hout⟩, HSI⟩
  ihave H := (reads (xAt d) (m (xAt d)) s') $$ [Hx HSI]
  · isplitl [Hx] <;> iassumption
  icases H with ⟨%hx, HSI⟩
  ihave H := (reads (stackAt d) (m (stackAt d)) s') $$ [Hstack HSI]
  · isplitl [Hstack] <;> iassumption
  icases H with ⟨%hs, HSI⟩
  ihave H := (reads (outAt d) (row m d) s') $$ [Hout HSI]
  · isplitl [Hout] <;> iassumption
  icases H with ⟨%ho, -⟩
  ipureintro; exact ⟨ho, hx, hs⟩

/-- Every weakly fair execution of the kernel ends, and ends with row 1 of the stack in the result on every device, `x`
    and the stack unchanged, and every semaphore's counter at zero. The floats may be any. -/
theorem run_main [∀ e, Nonempty (Elt F e)] :
    θ_run (Cert.KernelIdeal.defs (F := F)) (Cert.KernelIdeal.threads (F := F)) ⟨m, fun _ => 0, ρ⟩
      fun r => (∀ d : Dev nD, Popped m d r.2.mem) ∧ r.2.sem = fun _ => 0 :=
  SparseCore.Cfg.θ_run_sc_quiescent (K := K (F := F)) (D := D (F := F)) (𝒱 := var) (EH := rounds) (P := P m) (A := ∅) launchFacts start
    (fun q _ => match q with | 0 => callRuns m)
    (fun q hq => match q with | 0 => nomatch hq)
    (fun q hq => match q with | 0 => nomatch hq)
    m ρ main (fun _ => iprop(emp)) (final m) (extra₀ (F := F)) (sep_elim_left.trans (extra₀_gives m)) (main_runs m ρ)
    (fun d s' => Popped m d s'.mem.mem) (final_tells m) _ (fun _ h hz => ⟨h, hz⟩)

end Cert.Proof.Pop

end
-- ==== Proof.lean ====
/-
  The proof of `Cert.Claim`.

  `Proof/Row.lean` says what row 1 of the stack is and that the reference's write, cut and reshape come to it, and so
  does the kernel's copy. `Proof/Pop.lean` runs the kernel. Here the claims are read off those two and off the
  reference's generated run. The programs printed for exact arithmetic and for machine words are the same text, so each
  of the two facts is proved once, for any float values, and used for both.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Row
public import proofs.«01_k».proof.Proof.Pop
public import Idealize.ShloMosaic.Lib.Quiescent

@[expose] public section

noncomputable section

namespace Cert.Proof

open Idealize.ShloMosaic Idealize.SL.Sem

/-- The kernel on machine words runs, leaves `x` and the stack alone, and ends with every counter at zero. -/
theorem kernel_frame : Cert.quiescent_Kernel := fun m ρ _ =>
  (θ_run Cert.KernelIdeal.defs _ _).mono (fun _ h => ⟨fun c => (h.1 c).2, h.2⟩) (Pop.run_main (F := Bits) m ρ)

/-- The same in exact arithmetic. -/
theorem kernelIdeal_frame : Cert.quiescent_KernelIdeal := fun m ρ _ =>
  (θ_run Cert.KernelIdeal.defs _ _).mono (fun _ h => ⟨fun c => (h.1 c).2, h.2⟩) (Pop.run_main (F := Ideal) m ρ)

/-- The reference in exact arithmetic runs and leaves its arguments alone; it has no semaphores. -/
theorem referenceIdeal_frame : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The same on machine words. -/
theorem reference_frame : Cert.quiescent_Reference := fun m ρ _ =>
  (θ_run Cert.Reference.defs _ _).mono (fun _ h => ⟨fun c => (h c).2, sem_eq_zero_of_no_sems rfl _⟩)
    (Cert.Reference.Value.run (F := Bits) m ρ)

/-- In exact arithmetic the kernel and the reference, given the same `x` and the same stack, return the same vector on
    every device: row 1 of the stack. -/
theorem same_ideal : Cert.algebraic_KernelIdeal_ReferenceIdeal := fun m ρ m' ρ' _ hm =>
  ⟨Pop.row m,
    (θ_run Cert.KernelIdeal.defs _ _).mono (fun _ h c => h.1 c) (Pop.run_main (F := Ideal) m ρ),
    (θ_run Cert.ReferenceIdeal.defs _ _).mono
      (fun _ h c => ⟨((h c).1.trans (Row.reference_row _ _)).trans (congrArg Row.popped (hm c).2), (h c).2⟩)
      (Cert.ReferenceIdeal.Value.run (F := Ideal) m' ρ')⟩

/-- On machine words they return the same words. -/
theorem same_bits : Cert.bitexact_Kernel_Reference := fun m ρ m' ρ' _ hm =>
  ⟨Pop.row m,
    (θ_run Cert.KernelIdeal.defs _ _).mono (fun _ h c => h.1 c) (Pop.run_main (F := Bits) m ρ),
    (θ_run Cert.Reference.defs _ _).mono
      (fun _ h c => ⟨((h c).1.trans (Row.reference_row _ _)).trans (congrArg Row.popped (hm c).2), (h c).2⟩)
      (Cert.Reference.Value.run (F := Bits) m' ρ')⟩

/-- Everything claimed. -/
theorem claim : Cert.Claim :=
  ⟨Cert.Kernel.Gen.facts, Cert.KernelIdeal.Gen.facts, Cert.ReferenceIdeal.Gen.facts, Cert.Reference.Gen.facts,
    kernel_frame, kernelIdeal_frame, referenceIdeal_frame, reference_frame, trivial, same_ideal, same_bits⟩

end Cert.Proof

end
